-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S16x256x1024 : Shape := ⟨3, ![16, 256, 1024]⟩
abbrev S256x1024 : Shape := ⟨2, ![256, 1024]⟩
abbrev S_ : Shape := ⟨0, ![]⟩

class Facts : Prop where
  bcast_S_S16x256x1024 : S_.BroadcastsInDim S16x256x1024 (![] : Fin 0 → Fin S16x256x1024.rank)
  bcast_S_S256x1024 : S_.BroadcastsInDim S256x1024 (![] : Fin 0 → Fin S256x1024.rank)

variable [Facts]

def fn {F : FTy → Type} [FloatOps F] (main_arg0 : FVec F S16x256x1024 .f32) (main_arg1 : FVec F S256x1024 .f32) : IVec S16x256x1024 1 × IVec S256x1024 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  (main_v2, main_v5)
-- ==== Kernel.lean ====
abbrev S16x256x1024 : Shape := ⟨3, ![16, 256, 1024]⟩
abbrev S256x1024 : Shape := ⟨2, ![256, 1024]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S16x1x1024 : Shape := ⟨3, ![16, 1, 1024]⟩
abbrev S1x1 : Shape := ⟨2, ![1, 1]⟩
abbrev S1x256x1024 : Shape := ⟨3, ![1, 256, 1024]⟩
abbrev S1x1x1024 : Shape := ⟨3, ![1, 1, 1024]⟩
abbrev S1024x1024 : Shape := ⟨2, ![1024, 1024]⟩
abbrev S1x1024 : Shape := ⟨2, ![1, 1024]⟩
abbrev S1 : Shape := ⟨1, ![1]⟩
abbrev S1x1x1 : Shape := ⟨3, ![1, 1, 1]⟩
abbrev S16x1024 : Shape := ⟨2, ![16, 1024]⟩

abbrev nBuf : Space → Nat
  | .hbm => 18
  | .vmem => 9
  | .smem => 1
  | _ => 0

abbrev bufTy : (tb : Table) → Fin (tcTables nBuf tb) → BufTy
  | .hbm, ⟨0, _⟩ => ⟨S16x256x1024, .f32⟩
  | .hbm, ⟨1, _⟩ => ⟨S256x1024, .f32⟩
  | .hbm, ⟨2, _⟩ => ⟨S1024x256, .f32⟩
  | .hbm, ⟨3, _⟩ => ⟨S_, .f32⟩
  | .hbm, ⟨4, _⟩ => ⟨S1024x256, .f32⟩
  | .hbm, ⟨5, _⟩ => ⟨S1024x256, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S16x256x1024, .f32⟩
  | .hbm, ⟨12, _⟩ => ⟨S16x1x1024, .i32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x1024, .i32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S1024x256, .f32⟩
  | .local _ .vmem, ⟨4, _⟩ => ⟨S1024x1, .f32⟩
  | .local _ .vmem, ⟨5, _⟩ => ⟨S1x256x1024, .f32⟩
  | .local _ .vmem, ⟨6, _⟩ => ⟨S1x256x1024, .f32⟩
  | .local _ .vmem, ⟨7, _⟩ => ⟨S1x1x1024, .i32⟩
  | .local _ .vmem, ⟨8, _⟩ => ⟨S1x1x1024, .i32⟩
  | .local _ .smem, ⟨0, _⟩ => ⟨S1x1, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_24 : BitVec 32 := 0#32
  let v51 : BitVec 1 := Scalar.cmpi .ne v50 c0_i32_24
  v51

def k0_cond2 (i : grid0.Coords) : BitVec 1 :=
  let arg0 : BitVec 32 := BitVec.ofNat 32 (i 0).val
  let c0_i32_25 : BitVec 32 := 0#32
  let v52 : BitVec 1 := Scalar.cmpi .sgt arg0 c0_i32_25
  let v53 : BitVec 32 := Scalar.extui v52
  let c0_i32_26 : BitVec 32 := 0#32
  let v54 : BitVec 1 := Scalar.cmpi .ne v53 c0_i32_26
  v54

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x256x1024 : Shape := ⟨3, ![16, 256, 1024]⟩
abbrev S256x1024 : Shape := ⟨2, ![256, 1024]⟩
abbrev S16x1024x256 : Shape := ⟨3, ![16, 1024, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S1 : Shape := ⟨1, ![1]⟩
abbrev S1x1 : Shape := ⟨2, ![1, 1]⟩
abbrev S256x16384 : Shape := ⟨2, ![256, 16384]⟩
abbrev S16x1024 : Shape := ⟨2, ![16, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S256x1024, .f32⟩
  | .hbm, ⟨2, _⟩ => ⟨S16x1024x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S256x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S256x16384, .f32⟩
  | .hbm, ⟨44, _⟩ => ⟨S256x16384, .i1⟩
  | .hbm, ⟨45, _⟩ => ⟨S_, .f32⟩
  | .hbm, ⟨46, _⟩ => ⟨S256x16384, .f32⟩
  | .hbm, ⟨47, _⟩ => ⟨S256x16384, .f32⟩
  | .hbm, ⟨48, _⟩ => ⟨S16384x256, .f32⟩
  | .hbm, ⟨49, _⟩ => ⟨S16x1024x256, .f32⟩
  | .hbm, ⟨50, _⟩ => ⟨S16x256x1024, .f32⟩
  | .hbm, ⟨51, _⟩ => ⟨S16x256x1024, .f32⟩
  | .hbm, ⟨52, _⟩ => ⟨S16x256x1024, .f32⟩
  | .hbm, ⟨53, _⟩ => ⟨S16x256x1024, .f32⟩
  | .hbm, ⟨54, _⟩ => ⟨S16x256x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S16x1024, .i32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]
-- ==== Proof.RefRun.lean ====
/- The reference program's run: what its three results hold, as named stages over the two arguments. -/
module

public import proofs.«01_k».proof.Defs
public import proofs.«01_k».proof.Proof.Gen.ReferenceIdeal
public import Idealize.ShloMosaic.Lib.Claim

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen

/-- The input rows: one row of 256 features per position, 16 images of 1024 positions each. -/
def rows (X : FVec Ideal S16x256x1024 .f32) : FVec Ideal S16384x256 .f32 :=
  shapeCast S16384x256 (transpose S16x1024x256 [0, 2, 1] X transposes_S16x256x1024_S16x1024x256_0_2_1)
    shapeCasts_S16x1024x256_S16384x256

/-- The squared distance of every row to every codebook entry, in its expanded form. -/
def dist (X : FVec Ideal S16x256x1024 .f32) (E : FVec Ideal S256x1024 .f32) : FVec Ideal S16384x1024 .f32 :=
  subf
    (addf
      (broadcastInDim S16384x1024 ![0, 1] bcast_S16384x1_S16384x1024_0_1
        (broadcastInDim S16384x1 ![0] bcast_S16384_S16384x1_0
          (Host.reduceAdd (mulf (rows X) (rows X)) (constant S_ .f32 0x00000000#32)
            reducesTo_S16384x256_S16384_d1 h_S_)))
      (broadcastInDim S16384x1024 ![0, 1] bcast_S1x1024_S16384x1024_0_1
        (broadcastInDim S1x1024 ![1] bcast_S1024_S1x1024_1
          (Host.reduceAdd (mulf E E) (constant S_ .f32 0x00000000#32) reducesTo_S256x1024_S1024_d0 h_S_))))
    (mulf (broadcastInDim S16384x1024 ![] bcast_S_S16384x1024 (constant S_ .f32 0x40000000#32))
      (Host.dotGeneral dot_S16384x256_S256x1024_S16384x1024_1_0_0_1_n_n none (rows X) E))

/-- The numbers that a reduction over (value, number) pairs ends at. -/
def numbers {s t u : Shape} {axes : List (Fin s.rank)} (r : Ideal .f32 × BitVec 32 → Ideal .f32 × BitVec 32 → Ideal .f32 × BitVec 32)
    (x : FVec Ideal s .f32) (y : IVec s 32) (ix : FVec Ideal u .f32) (iy : IVec u 32) (h : s.ReducesTo axes t)
    (hu : 0 < u.numel) : IVec t 32 :=
  fun j => (Host.argReduce (F := Ideal) r x y ix iy h hu j).2

/-- The number of the nearest codebook entry of every row. -/
def nearest (D : FVec Ideal S16384x1024 .f32) : IVec S16384 32 :=
  numbers (reducer_argmin_f32_i32 (F := Ideal)) D (iotaInDim S16384x1024 32 1)
    (constant S_ .f32 0x7F800000#32) (constantI S_ 32 0#32) reducesTo_S16384x1024_S16384_d1 h_S_

/-- The entry numbers as the lookup uses them: a negative one counts from the end. -/
def wrapped (I : IVec S16384 32) : IVec S16384x1 32 :=
  broadcastInDim S16384x1 ![0] bcast_S16384_S16384x1_0
    (select (cmpi .slt I (broadcastInDim S16384 ![] bcast_S_S16384 (constantI S_ 32 0#32)))
      (addi I (broadcastInDim S16384 ![] bcast_S_S16384 (constantI S_ 32 1024#32))) I)

/-- Whether an entry number lies in the codebook. -/
def inRange (J : IVec S16384x1 32) : IVec S16384 1 :=
  Host.reduce IntOp.andi
    (andi (cmpi .sge J (broadcastInDim S16384x1 ![] bcast_S_S16384x1 (constantI S_ 32 0#32)))
      (cmpi .sle J (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The looked-up codebook columns, a filler value where the number is out of range. -/
def taken (E : FVec Ideal S256x1024 .f32) (J : IVec S16384x1 32) : FVec Ideal S256x16384 .f32 :=
  select (broadcastInDim S256x16384 ![1] bcast_S16384_S256x16384_1 (inRange J))
    (Host.gather gather_S256x1024_S16384x1_S256x16384_0_1_n_n_1_1_2561 E J)
    (broadcastInDim S256x16384 ![] bcast_S_S256x16384 (constant S_ .f32 0x7FC00000#32))

/-- The looked-up columns in the layout of the input. -/
def quant (T : FVec Ideal S256x16384 .f32) : FVec Ideal S16x256x1024 .f32 :=
  transpose S16x256x1024 [0, 2, 1]
    (shapeCast S16x1024x256 (transpose S16384x256 [1, 0] T transposes_S256x16384_S16384x256_1_0)
      shapeCasts_S16384x256_S16x1024x256) transposes_S16x1024x256_S16x256x1024_0_2_1

/-- The first result: the input plus the difference to the looked-up values. -/
def straight (Q X : FVec Ideal S16x256x1024 .f32) : FVec Ideal S16x256x1024 .f32 :=
  addf X (subf Q X)

/-- The last result: the mean squared difference. -/
def loss (Q X : FVec Ideal S16x256x1024 .f32) : FVec Ideal S_ .f32 :=
  mulf (constant S_ .f32 0x3F800000#32)
    (Host.divf
      (Host.reduceAdd (mulf (subf Q X) (subf Q X)) (constant S_ .f32 0x00000000#32)
        reducesTo_S16x256x1024_S_d0_1_2 h_S_)
      (constant S_ .f32 0x4A800000#32))

/-- The entry number of every row, from the arguments. -/
def idx (X : FVec Ideal S16x256x1024 .f32) (E : FVec Ideal S256x1024 .f32) : IVec S16384 32 := nearest (dist X E)

/-- The looked-up values, from the arguments. -/
def q (X : FVec Ideal S16x256x1024 .f32) (E : FVec Ideal S256x1024 .f32) : FVec Ideal S16x256x1024 .f32 :=
  quant (taken E (wrapped (idx X E)))

/-! ## The program as four lists of operations -/

section Ops
variable {F : FTy → Type} [FloatOps F]

/-- The operations up to the squared distances. -/
def distOps : List (HloOp τ sig (Elt F)) :=
  [StableHlo.unary main_arg0 main_v0 ((transpose S16x1024x256 [0, 2, 1] · transposes_S16x256x1024_S16x1024x256_0_2_1) : (⟨S16x256x1024, .f32⟩ : BufTy).Contents (Elt F) → (⟨S16x1024x256, .f32⟩ : BufTy).Contents (Elt F)),
    StableHlo.reshape main_v0 main_v1 (rfl : (.f32 : EltTy) = .f32) shapeCasts_S16x1024x256_S16384x256,
    StableHlo.binary main_v1 main_v1 main_v2 (mulf : (⟨S16384x256, .f32⟩ : BufTy).Contents (Elt F) → (⟨S16384x256, .f32⟩ : BufTy).Contents (Elt F) → (⟨S16384x256, .f32⟩ : BufTy).Contents (Elt F)),
    StableHlo.nullary main_cst (constant S_ .f32 0x00000000#32),
    StableHlo.binary main_v2 main_cst main_v3 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v3 main_v4 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v5 (mulf : (⟨S256x1024, .f32⟩ : BufTy).Contents (Elt F) → (⟨S256x1024, .f32⟩ : BufTy).Contents (Elt F) → (⟨S256x1024, .f32⟩ : BufTy).Contents (Elt F)),
    StableHlo.nullary main_cst_0 (constant S_ .f32 0x00000000#32),
    StableHlo.binary main_v5 main_cst_0 main_v6 ((fun x v => Host.reduceAdd x v reducesTo_S256x1024_S1024_d0 h_S_) : (⟨S256x1024, .f32⟩ : BufTy).Contents (Elt F) → (⟨S_, .f32⟩ : BufTy).Contents (Elt F) → (⟨S1024, .f32⟩ : BufTy).Contents (Elt F)),
    StableHlo.unary main_v6 main_v7 (broadcastInDim S1x1024 ![1] bcast_S1024_S1x1024_1 : (⟨S1024, .f32⟩ : BufTy).Contents (Elt F) → (⟨S1x1024, .f32⟩ : BufTy).Contents (Elt F)),
    StableHlo.unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    StableHlo.unary main_v7 main_v9 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    StableHlo.binary main_v1 main_arg1 main_v11 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.nullary main_cst_1 (constant S_ .f32 0x40000000#32),
    StableHlo.unary main_cst_1 main_v12 (broadcastInDim S16384x1024 ![] bcast_S_S16384x1024 : (⟨S_, .f32⟩ : BufTy).Contents (Elt F) → (⟨S16384x1024, .f32⟩ : BufTy).Contents (Elt F)),
    StableHlo.binary main_v12 main_v11 main_v13 (mulf : (⟨S16384x1024, .f32⟩ : BufTy).Contents (Elt F) → (⟨S16384x1024, .f32⟩ : BufTy).Contents (Elt F) → (⟨S16384x1024, .f32⟩ : BufTy).Contents (Elt F)),
    StableHlo.binary main_v10 main_v13 main_v14 (subf : (⟨S16384x1024, .f32⟩ : BufTy).Contents (Elt F) → (⟨S16384x1024, .f32⟩ : BufTy).Contents (Elt F) → (⟨S16384x1024, .f32⟩ : BufTy).Contents (Elt F))]

/-- The operations of the search for the nearest entry. -/
def argminOps : List (HloOp τ sig (Elt F)) :=
  [StableHlo.TRef.nullary main_call0.v0 (iotaInDim S16384x1024 32 1),
    StableHlo.TRef.nullary main_call0.cst (constant S_ .f32 0x7F800000#32),
    StableHlo.TRef.nullary main_call0.c (constantI S_ 32 0#32),
    StableHlo.TRef.quaternary (.of main_v14 : StableHlo.TRef sig ⟨S16384x1024, .f32⟩) main_call0.v0 main_call0.cst main_call0.c main_call0.v1_0 (fun x y u v j => (Host.argReduce reducer_argmin_f32_i32 x y u v reducesTo_S16384x1024_S16384_d1 h_S_ j).1),
    StableHlo.TRef.quaternary (.of main_v14 : StableHlo.TRef sig ⟨S16384x1024, .f32⟩) main_call0.v0 main_call0.cst main_call0.c main_call0.v1_1 (fun x y u v j => (Host.argReduce reducer_argmin_f32_i32 x y u v reducesTo_S16384x1024_S16384_d1 h_S_ j).2)]

/-- The operations of the lookup. -/
def takeOps : List (HloOp τ sig (Elt F)) :=
  [StableHlo.TRef.nullary main_call1.c (constantI S_ 32 0#32),
    StableHlo.TRef.unary main_call1.c main_call1.v0 (broadcastInDim S16384 ![] bcast_S_S16384),
    StableHlo.TRef.binary (.of main_v15 : StableHlo.TRef sig ⟨S16384, .i32⟩) main_call1.v0 main_call1.v1 (cmpi .slt),
    StableHlo.TRef.nullary main_call1.c_0 (constantI S_ 32 1024#32),
    StableHlo.TRef.unary main_call1.c_0 main_call1.v2 (broadcastInDim S16384 ![] bcast_S_S16384),
    StableHlo.TRef.binary (.of main_v15 : StableHlo.TRef sig ⟨S16384, .i32⟩) main_call1.v2 main_call1.v3 addi,
    StableHlo.TRef.ternary main_call1.v1 main_call1.v3 (.of main_v15 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 1023#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg1 : StableHlo.TRef sig ⟨S256x1024, .f32⟩) main_call1.v5 main_call1.v13 (fun x i => Host.gather gather_S256x1024_S16384x1_S256x16384_0_1_n_n_1_1_2561 x i),
    StableHlo.TRef.unary main_call1.v12 main_call1.v14 (broadcastInDim S256x16384 ![1] bcast_S16384_S256x16384_1),
    StableHlo.TRef.nullary main_call1.cst (constant S_ .f32 0x7FC00000#32),
    StableHlo.TRef.unary main_call1.cst main_call1.v15 (broadcastInDim S256x16384 ![] bcast_S_S256x16384),
    StableHlo.TRef.ternary main_call1.v14 main_call1.v13 main_call1.v15 main_call1.v16 select]

/-- The operations from the looked-up columns to the results. -/
def tailOps : List (HloOp τ sig (Elt F)) :=
  [StableHlo.unary main_v16 main_v17 ((transpose S16384x256 [1, 0] · transposes_S256x16384_S16384x256_1_0) : (⟨S256x16384, .f32⟩ : BufTy).Contents (Elt F) → (⟨S16384x256, .f32⟩ : BufTy).Contents (Elt F)),
    StableHlo.reshape main_v17 main_v18 (rfl : (.f32 : EltTy) = .f32) shapeCasts_S16384x256_S16x1024x256,
    StableHlo.unary main_v18 main_v19 ((transpose S16x256x1024 [0, 2, 1] · transposes_S16x1024x256_S16x256x1024_0_2_1) : (⟨S16x1024x256, .f32⟩ : BufTy).Contents (Elt F) → (⟨S16x256x1024, .f32⟩ : BufTy).Contents (Elt F)),
    StableHlo.binary main_v19 main_arg0 main_v20 (subf : (⟨S16x256x1024, .f32⟩ : BufTy).Contents (Elt F) → (⟨S16x256x1024, .f32⟩ : BufTy).Contents (Elt F) → (⟨S16x256x1024, .f32⟩ : BufTy).Contents (Elt F)),
    StableHlo.binary main_arg0 main_v20 main_v21 (addf : (⟨S16x256x1024, .f32⟩ : BufTy).Contents (Elt F) → (⟨S16x256x1024, .f32⟩ : BufTy).Contents (Elt F) → (⟨S16x256x1024, .f32⟩ : BufTy).Contents (Elt F)),
    StableHlo.binary main_v19 main_arg0 main_v22 (subf : (⟨S16x256x1024, .f32⟩ : BufTy).Contents (Elt F) → (⟨S16x256x1024, .f32⟩ : BufTy).Contents (Elt F) → (⟨S16x256x1024, .f32⟩ : BufTy).Contents (Elt F)),
    StableHlo.binary main_v22 main_v22 main_v23 (mulf : (⟨S16x256x1024, .f32⟩ : BufTy).Contents (Elt F) → (⟨S16x256x1024, .f32⟩ : BufTy).Contents (Elt F) → (⟨S16x256x1024, .f32⟩ : BufTy).Contents (Elt F)),
    StableHlo.nullary main_cst_2 (constant S_ .f32 0x00000000#32),
    StableHlo.binary main_v23 main_cst_2 main_v24 ((fun x v => Host.reduceAdd x v reducesTo_S16x256x1024_S_d0_1_2 h_S_) : (⟨S16x256x1024, .f32⟩ : BufTy).Contents (Elt F) → (⟨S_, .f32⟩ : BufTy).Contents (Elt F) → (⟨S_, .f32⟩ : BufTy).Contents (Elt F)),
    StableHlo.nullary main_cst_3 (constant S_ .f32 0x4A800000#32),
    StableHlo.binary main_v24 main_cst_3 main_v25 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x3F800000#32),
    StableHlo.binary main_cst_4 main_v25 main_v26 (mulf : (⟨S_, .f32⟩ : BufTy).Contents (Elt F) → (⟨S_, .f32⟩ : BufTy).Contents (Elt F) → (⟨S_, .f32⟩ : BufTy).Contents (Elt F)),
    StableHlo.reshape main_v15 main_v27 (rfl : (.i32 : EltTy) = .i32) shapeCasts_S16384_S16x1024]

end Ops

/-! ## What each list leaves -/

variable (σ : Valuation τ sig (Elt Ideal))

/-- The first list of operations leaves the distances. -/
theorem dist_read : StableHlo.after (distOps (F := Ideal)) σ (Proc.devRef .tc main_v14)
    = dist (σ (Proc.devRef .tc main_arg0)) (σ (Proc.devRef .tc main_arg1)) := by
  unfold distOps
  after_results_simp
  rfl

/-- It leaves the first argument. -/
theorem dist_arg0 : StableHlo.after (distOps (F := Ideal)) σ (Proc.devRef .tc main_arg0) = σ (Proc.devRef .tc main_arg0) := by
  unfold distOps
  after_results_simp

/-- It leaves the second argument. -/
theorem dist_arg1 : StableHlo.after (distOps (F := Ideal)) σ (Proc.devRef .tc main_arg1) = σ (Proc.devRef .tc main_arg1) := by
  unfold distOps
  after_results_simp

/-- The second list leaves the numbers of the nearest entries. -/
theorem argmin_read : StableHlo.after (argminOps (F := Ideal)) σ (Proc.devRef .tc main_v15)
    = nearest (σ (Proc.devRef .tc main_v14)) := by
  unfold argminOps
  after_results_simp
  rfl

/-- It leaves the first argument. -/
theorem argmin_arg0 : StableHlo.after (argminOps (F := Ideal)) σ (Proc.devRef .tc main_arg0) = σ (Proc.devRef .tc main_arg0) := by
  unfold argminOps
  after_results_simp

/-- It leaves the second argument. -/
theorem argmin_arg1 : StableHlo.after (argminOps (F := Ideal)) σ (Proc.devRef .tc main_arg1) = σ (Proc.devRef .tc main_arg1) := by
  unfold argminOps
  after_results_simp

/-- The third list leaves the looked-up entries. -/
theorem take_read : StableHlo.after (takeOps (F := Ideal)) σ (Proc.devRef .tc main_v16)
    = taken (σ (Proc.devRef .tc main_arg1)) (wrapped (σ (Proc.devRef .tc main_v15))) := by
  unfold takeOps
  after_results_simp
  simp -implicitDefEqProofs only [StableHlo.TRef.toBuf, StableHlo.TRef.ofBuf, cast_cast, cast_eq]
  rfl

/-- It leaves the first argument. -/
theorem take_arg0 : StableHlo.after (takeOps (F := Ideal)) σ (Proc.devRef .tc main_arg0) = σ (Proc.devRef .tc main_arg0) := by
  unfold takeOps
  after_results_simp

/-- It leaves the second argument. -/
theorem take_arg1 : StableHlo.after (takeOps (F := Ideal)) σ (Proc.devRef .tc main_arg1) = σ (Proc.devRef .tc main_arg1) := by
  unfold takeOps
  after_results_simp

/-- It leaves the numbers of the nearest entries. -/
theorem take_v15 : StableHlo.after (takeOps (F := Ideal)) σ (Proc.devRef .tc main_v15) = σ (Proc.devRef .tc main_v15) := by
  unfold takeOps
  after_results_simp

/-- The last list leaves the first result. -/
theorem tail_v21 : StableHlo.after (tailOps (F := Ideal)) σ (Proc.devRef .tc main_v21)
    = straight (quant (σ (Proc.devRef .tc main_v16))) (σ (Proc.devRef .tc main_arg0)) := by
  unfold tailOps
  after_results_simp
  rfl

/-- The last list leaves the third result. -/
theorem tail_v26 : StableHlo.after (tailOps (F := Ideal)) σ (Proc.devRef .tc main_v26)
    = loss (quant (σ (Proc.devRef .tc main_v16))) (σ (Proc.devRef .tc main_arg0)) := by
  unfold tailOps
  after_results_simp
  rfl

/-- The last list leaves the second result. -/
theorem tail_v27 : StableHlo.after (tailOps (F := Ideal)) σ (Proc.devRef .tc main_v27)
    = shapeCast S16x1024 (σ (Proc.devRef .tc main_v15) : IVec S16384 32) shapeCasts_S16384_S16x1024 := by
  unfold tailOps
  after_results_simp
  rfl

/-- It leaves the first argument. -/
theorem tail_arg0 : StableHlo.after (tailOps (F := Ideal)) σ (Proc.devRef .tc main_arg0) = σ (Proc.devRef .tc main_arg0) := by
  unfold tailOps
  after_results_simp

/-- It leaves the second argument. -/
theorem tail_arg1 : StableHlo.after (tailOps (F := Ideal)) σ (Proc.devRef .tc main_arg1) = σ (Proc.devRef .tc main_arg1) := by
  unfold tailOps
  after_results_simp

/-- One list of operations after another is the two in turn. -/
theorem after_append (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The whole program. -/
def allOps : List (HloOp τ sig (Elt Ideal)) := distOps ++ (argminOps ++ (takeOps ++ tailOps))

/-- The reference is the four lists in turn. -/
theorem main_isSeq (d : Dev nD) : StableHlo.IsSeq (main (F := Ideal) d) allOps := by
  hlo_seq

variable (m : (ℓ : Loc nD τ sig) → Buf (Elt Ideal) ℓ) (g : Dev nD → PrngReg)

/-- The reference ends with every buffer at what its operations leave there. -/
theorem raw : θ_run (defs (F := Ideal)) (onTc (τ := τ) (main (F := Ideal))) ⟨m, fun _ => 0, g⟩ fun r =>
    ∀ (d : Dev nD) (b : Ref sig .tc),
      r.2.mem ((d.tc : Thread nD τ).loc b) = StableHlo.after allOps (StableHlo.launchContents m d) (Proc.devRef .tc b) :=
  StableHlo.run_hlo _ _ main_isSeq (by decide) (by decide) (by simp [allOps, distOps, argminOps, takeOps, tailOps])
    (by
      intro _ h
      unfold allOps distOps argminOps takeOps tailOps at h
      simp only [List.cons_append, List.nil_append] at h
      (repeat (cases h with | head => rfl | tail _ h => ?_)); exact nomatch h) _ _

/-- The reference's three results. -/
theorem run : θ_run (defs (F := Ideal)) (onTc (τ := τ) (main (F := Ideal))) ⟨m, fun _ => 0, g⟩ (fun r => ∀ c : Dev nD,
      r.2.mem ((c.tc : Thread nD τ).loc main_v21)
        = straight (q (m ((c.tc : Thread nD τ).loc main_arg0)) (m ((c.tc : Thread nD τ).loc main_arg1))) (m ((c.tc : Thread nD τ).loc main_arg0))
      ∧ r.2.mem ((c.tc : Thread nD τ).loc main_v27)
        = shapeCast S16x1024 (idx (m ((c.tc : Thread nD τ).loc main_arg0)) (m ((c.tc : Thread nD τ).loc main_arg1))) shapeCasts_S16384_S16x1024
      ∧ r.2.mem ((c.tc : Thread nD τ).loc main_v26)
        = loss (q (m ((c.tc : Thread nD τ).loc main_arg0)) (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (raw m g)
  refine ⟨?_, ?_, ?_, ?_, ?_⟩ <;> rw [h c, allOps, after_append, after_append, after_append]
  · rw [tail_v21, take_read, take_arg0, argmin_read, argmin_arg0, argmin_arg1, dist_read, dist_arg0, dist_arg1]
    rfl
  · rw [tail_v27, take_v15, argmin_read, dist_read]
    rfl
  · rw [tail_v26, take_read, take_arg0, argmin_read, argmin_arg0, argmin_arg1, dist_read, dist_arg0, dist_arg1]
    rfl
  · rw [tail_arg0, take_arg0, argmin_arg0, dist_arg0]
  · rw [tail_arg1, take_arg1, argmin_arg1, dist_arg1]

/-- The reference leaves its arguments and every counter as they were. -/
theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2, sem_eq_zero_of_no_sems (by decide) r.2⟩) (run m g)

end Cert.ReferenceIdeal.Stage

end
-- ==== Proof.Maths.lean ====
/- The mathematics of the nearest codebook entry, over plain functions: squared distances, the first entry at the least
   distance, the two ways of finding it, and the one-hot lookup. No program occurs here. -/
module

public import Idealize.ShloMosaic.Lib.Claim
public import Idealize.ShloMosaic.Lib.Pointwise

@[expose] public section

noncomputable section

namespace Cert.Vq

open Idealize.ShloMosaic

/-! ## The first entry at the least value -/

/-- `k` is a place of the least value of `f`, and no earlier place has that value. -/
def IsBest (f : Fin 1024 → ℝ) (k : Fin 1024) : Prop :=
  (∀ j, f k ≤ f j) ∧ ∀ j, f j = f k → k ≤ j

/-- There is a first place of the least value. -/
theorem exists_isBest (f : Fin 1024 → ℝ) : ∃ k, IsBest f k := by
  obtain ⟨k0, -, h0⟩ := Finset.exists_min_image Finset.univ f ⟨0, Finset.mem_univ _⟩
  have hne : (Finset.univ.filter fun k => f k = f k0).Nonempty := ⟨k0, by simp⟩
  have hm := Finset.min'_mem _ hne
  have hm' : f (Finset.min' _ hne) = f k0 := (Finset.mem_filter.1 hm).2
  refine ⟨Finset.min' _ hne, fun j => hm'.le.trans (h0 j (Finset.mem_univ j)), fun j hj => ?_⟩
  exact Finset.min'_le _ _ (Finset.mem_filter.2 ⟨Finset.mem_univ j, hj.trans hm'⟩)

/-- The first place of the least value. -/
def best (f : Fin 1024 → ℝ) : Fin 1024 := Classical.choose (exists_isBest f)

/-- `best` is the first place of the least value. -/
theorem best_isBest (f : Fin 1024 → ℝ) : IsBest f (best f) := Classical.choose_spec (exists_isBest f)

/-- The value at `best` is the least. -/
theorem best_le (f : Fin 1024 → ℝ) (j : Fin 1024) : f (best f) ≤ f j := (best_isBest f).1 j

/-- No place before `best` has the least value. -/
theorem best_first (f : Fin 1024 → ℝ) (j : Fin 1024) (h : f j = f (best f)) : best f ≤ j := (best_isBest f).2 j h

/-- There is only one first place of the least value. -/
theorem IsBest.eq_best {f : Fin 1024 → ℝ} {k : Fin 1024} (h : IsBest f k) : k = best f := by
  have he : f k = f (best f) := le_antisymm (h.1 _) (best_le f k)
  exact le_antisymm (h.2 _ he.symm) (best_first f k he)

/-! ## Found by a fold over (value, number) pairs -/

/-- The order of the pairs: by value, equal values by number. -/
def PairLe (a b : EReal × BitVec 32) : Prop :=
  a.1 < b.1 ∨ (a.1 = b.1 ∧ a.2.toInt ≤ b.2.toInt)

/-- The order of the pairs is reflexive. -/
theorem PairLe.refl (a : EReal × BitVec 32) : PairLe a a := .inr ⟨rfl, le_rfl⟩

/-- The order of the pairs is transitive. -/
theorem PairLe.trans {a b c : EReal × BitVec 32} (h : PairLe a b) (h' : PairLe b c) : PairLe a c := by
  rcases h with h | ⟨h, hi⟩ <;> rcases h' with h' | ⟨h', hi'⟩
  · exact .inl (h.trans h')
  · exact .inl (h'  ▸ h)
  · exact .inl (h ▸ h')
  · exact .inr ⟨h.trans h', hi.trans hi'⟩

/-- A fold that keeps the smaller of two pairs ends at one of the pairs, and at a least one. -/
theorem fold_least (r : EReal × BitVec 32 → EReal × BitVec 32 → EReal × BitVec 32)
    (hl : ∀ a b, PairLe (r a b) a) (hr : ∀ a b, PairLe (r a b) b) (he : ∀ a b, r a b = a ∨ r a b = b)
    (l : List (EReal × BitVec 32)) : ∀ a, (l.foldl r a = a ∨ l.foldl r a ∈ l) ∧ PairLe (l.foldl r a) a
      ∧ ∀ y ∈ l, PairLe (l.foldl r a) y := by
  induction l with
  | nil => exact fun a => ⟨.inl rfl, PairLe.refl a, fun y hy => absurd hy List.not_mem_nil⟩
  | cons b l ih =>
    intro a
    obtain ⟨h1, h2, h3⟩ := ih (r a b)
    simp only [List.foldl_cons]
    refine ⟨?_, h2.trans (hl a b), fun y hy => ?_⟩
    · rcases h1 with h1 | h1
      · rcases he a b with h | h
        · exact .inl (h1.trans h)
        · exact .inr (by rw [h1, h]; exact List.mem_cons_self)
      · exact .inr (List.mem_cons_of_mem _ h1)
    · rcases List.mem_cons.1 hy with rfl | hy
      · exact h2.trans (hr a y)
      · exact h3 y hy

/-- The 32-bit word of an entry number, read as a signed integer, is that number. -/
theorem toInt_num (k : Fin 1024) : (BitVec.ofNat 32 k.val).toInt = (k.val : ℤ) :=
by
  have hk := k.isLt
  rw [BitVec.toInt_eq_toNat_of_lt (by rw [BitVec.toNat_ofNat]; omega), BitVec.toNat_ofNat]
  omega

/-- A least pair, among the pairs of `f` and the pair of infinity, has the number of the first place of the least value. -/
theorem least_pair (f : Fin 1024 → ℝ) (p : EReal × BitVec 32)
    (hm : p = (⊤, 0#32) ∨ ∃ k : Fin 1024, p = ((f k : EReal), BitVec.ofNat 32 k.val))
    (h : ∀ k : Fin 1024, PairLe p ((f k : EReal), BitVec.ofNat 32 k.val)) : p.2 = BitVec.ofNat 32 (best f).val := by
  rcases hm with rfl | ⟨k, rfl⟩
  · rcases h 0 with h | ⟨h, -⟩
    · exact absurd h not_top_lt
    · exact absurd h.symm (EReal.coe_ne_top _)
  · have hb : IsBest f k := by
      refine ⟨fun j => ?_, fun j hj => ?_⟩
      · rcases h j with h | ⟨h, -⟩
        · exact (EReal.coe_lt_coe_iff.1 h).le
        · exact (EReal.coe_eq_coe_iff.1 h).le
      · rcases h j with h | ⟨-, h⟩
        · exact absurd (EReal.coe_lt_coe_iff.1 h) (by rw [hj]; exact lt_irrefl _)
        · rw [toInt_num, toInt_num] at h
          exact Fin.le_def.2 (by exact_mod_cast h)
    rw [← hb.eq_best]

/-! ## Found by the largest reversed number among the places of the least value -/

/-- The minimum over all places, begun at infinity, is the value at `best`. -/
theorem fold_min_best (f : Fin 1024 → ℝ) :
    Finset.univ.fold min (⊤ : EReal) (fun k => (f k : EReal)) = (f (best f) : EReal) := by
  refine le_antisymm ?_ ?_
  · exact (Finset.fold_min_le _).2 (.inr ⟨best f, Finset.mem_univ _, le_rfl⟩)
  · exact (Finset.le_fold_min _).2 ⟨le_top, fun k _ => EReal.coe_le_coe_iff.2 (best_le f k)⟩

/-- The reversed number of a place: larger for an earlier one. -/
def rev (k : Fin 1024) : ℝ := 1024 - (k.val : ℝ)

/-- Reversed numbers are not negative. -/
theorem rev_pos (k : Fin 1024) : 0 ≤ rev k := by
  have : (k.val : ℝ) ≤ 1024 := by exact_mod_cast k.isLt.le
  unfold rev; linarith

/-- Different places have different reversed numbers. -/
theorem rev_inj {j k : Fin 1024} (h : rev j = rev k) : j = k := by
  unfold rev at h
  have : (j.val : ℝ) = k.val := by linarith
  exact Fin.ext (by exact_mod_cast this)

/-- An earlier place has the larger reversed number. -/
theorem rev_le {j k : Fin 1024} (h : j ≤ k) : rev k ≤ rev j := by
  unfold rev
  have : (j.val : ℝ) ≤ k.val := by exact_mod_cast Fin.le_def.1 h
  linarith

/-- The largest reversed number among the places of the least value belongs to `best`. -/
theorem fold_max_best (f : Fin 1024 → ℝ) :
    Finset.univ.fold max (⊥ : EReal) (fun k => if (f k : EReal) = (f (best f) : EReal) then (rev k : EReal) else 0)
      = (rev (best f) : EReal) := by
  refine le_antisymm ?_ ?_
  · refine (Finset.fold_max_le _).2 ⟨bot_le, fun k _ => ?_⟩
    split
    · rename_i h
      exact EReal.coe_le_coe_iff.2 (rev_le (best_first f k (EReal.coe_eq_coe_iff.1 h)))
    · exact_mod_cast rev_pos (best f)
  · refine (Finset.le_fold_max _).2 (.inr ⟨best f, Finset.mem_univ _, ?_⟩)
    rw [if_pos rfl]

/-- The float word of 1024. -/
theorem ofBits_1024 : Ideal.ofBits .f32 0x44800000#32 = ((1024 : ℝ) : EReal) := by
  simp [Ideal.ofBits, Ideal.ieee, -EReal.coe_mul]; norm_num

/-- The float word of 2. -/
theorem ofBits_two : Ideal.ofBits .f32 0x40000000#32 = ((2 : ℝ) : EReal) := by
  simp [Ideal.ofBits, Ideal.ieee, -EReal.coe_mul]; norm_num

/-- The float word of infinity. -/
theorem ofBits_posInf : Ideal.ofBits .f32 0x7F800000#32 = (⊤ : EReal) := by
  simp [Ideal.ofBits, Ideal.ieee]

/-- The float word of minus infinity. -/
theorem ofBits_negInf : Ideal.ofBits .f32 0xFF800000#32 = (⊥ : EReal) := by
  simp [Ideal.ofBits, Ideal.ieee]

/-- Undoing the reversal and rounding to an integer gives the number itself. -/
theorem number_of_rev (k : Fin 1024) :
    Ideal.fptosi 32 (((1024 : ℝ) : EReal) - (rev k : EReal)) = BitVec.ofNat 32 k.val := by
  rw [← EReal.coe_sub]
  have h : (1024 : ℝ) - rev k = ((k.val : ℤ) : ℝ) := by unfold rev; push_cast; ring
  rw [h, Ideal.fptosi, Ideal.toIntClamped_coe, if_pos (by positivity), Int.floor_intCast]
  have hk := k.isLt
  rw [show max (-((2 ^ (32 - 1) : ℕ) : ℤ)) (min (((2 ^ (32 - 1) : ℕ) : ℤ) - 1) (k.val : ℤ)) = (k.val : ℤ) by norm_num; omega]
  exact BitVec.ofInt_natCast ..

/-! ## Sums -/

/-- A finite sum of real numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum against the indicator of one place is the value there. -/
theorem one_hot_sum (e : Fin 1024 → ℝ) (k : Fin 1024) :
    ∑ j, (e j : EReal) * (if (rev j : EReal) = (rev k : EReal) then (1 : EReal) else 0) = (e k : EReal) := by
  rw [Finset.sum_eq_single k]
  · rw [if_pos rfl, mul_one]
  · intro j _ hj
    rw [if_neg fun h => hj (rev_inj (EReal.coe_eq_coe_iff.1 h)), mul_zero]
  · exact fun h => absurd (Finset.mem_univ k) h

/-! ## Distances -/

/-- The squared distance of the column `x` to entry `k` of the codebook, expanded. -/
def sqDist (x : Fin 256 → ℝ) (e : Fin 256 → Fin 1024 → ℝ) (k : Fin 1024) : ℝ :=
  (∑ d, x d * x d + ∑ d, e d k * e d k) - ∑ d, (2 * e d k) * x d

/-- The expanded squared distance is the sum of the squared differences. -/
theorem sqDist_eq (x : Fin 256 → ℝ) (e : Fin 256 → Fin 1024 → ℝ) (k : Fin 1024) :
    sqDist x e k = ∑ d, (e d k - x d) * (e d k - x d) := by
  unfold sqDist
  rw [← Finset.sum_add_distrib, ← Finset.sum_sub_distrib]
  exact Finset.sum_congr rfl fun d _ => by ring

/-- The number of the codebook entry nearest to the column `x`, the first such. -/
def near (x : Fin 256 → ℝ) (e : Fin 256 → Fin 1024 → ℝ) : Fin 1024 := best (sqDist x e)

/-- The distance as the kernel forms it: the codebook doubled before the contraction. -/
theorem sqDist_doubled (x : Fin 256 → ℝ) (e : Fin 256 → Fin 1024 → ℝ) (k : Fin 1024) :
    (∑ d, (x d : EReal) * (x d : EReal) + ∑ d, (e d k : EReal) * (e d k : EReal))
      - ∑ d, (((2 : ℝ) : EReal) * (e d k : EReal)) * (x d : EReal) = (sqDist x e k : EReal) := by
  unfold sqDist
  rw [EReal.coe_sub, EReal.coe_add, coe_sum, coe_sum, coe_sum]
  simp only [EReal.coe_mul]

/-- The distance as the reference forms it: the contraction doubled. -/
theorem sqDist_contracted (x : Fin 256 → ℝ) (e : Fin 256 → Fin 1024 → ℝ) (k : Fin 1024) :
    (∑ d, (x d : EReal) * (x d : EReal) + ∑ d, (e d k : EReal) * (e d k : EReal))
      - ((2 : ℝ) : EReal) * ∑ d, (x d : EReal) * (e d k : EReal) = (sqDist x e k : EReal) := by
  have h : sqDist x e k = (∑ d, x d * x d + ∑ d, e d k * e d k) - 2 * ∑ d, x d * e d k := by
    unfold sqDist
    rw [Finset.mul_sum]
    exact congrArg _ (Finset.sum_congr rfl fun d _ => by ring)
  rw [h, EReal.coe_sub, EReal.coe_add, EReal.coe_mul, coe_sum, coe_sum, coe_sum]
  simp only [EReal.coe_mul]

/-- Adding the difference to a real number gives the other number. -/
theorem add_sub_real (x q : ℝ) : (x : EReal) + ((q : EReal) - (x : EReal)) = (q : EReal) := by
  rw [← EReal.coe_sub, ← EReal.coe_add]
  congr 1; ring

/-! ## All positions -/

/-- The column of feature values at position `p` of image `b`. -/
def col (X : (⟨3, ![16, 256, 1024]⟩ : Shape).Idx → EReal) (b : Fin 16) (p : Fin 1024) (d : Fin 256) : ℝ :=
  (X (ix3 b d p)).toReal

/-- The codebook's values. -/
def book (E : (⟨2, ![256, 1024]⟩ : Shape).Idx → EReal) (d : Fin 256) (k : Fin 1024) : ℝ := (E (ix2 d k)).toReal

/-- The sum of the squared distances of all positions to their nearest entries. -/
def total (X : (⟨3, ![16, 256, 1024]⟩ : Shape).Idx → EReal) (E : (⟨2, ![256, 1024]⟩ : Shape).Idx → EReal) : ℝ :=
  ∑ b, ∑ p, sqDist (col X b p) (book E) (near (col X b p) (book E))

/-- The same total, summed feature by feature. -/
theorem total_eq (X : (⟨3, ![16, 256, 1024]⟩ : Shape).Idx → EReal) (E : (⟨2, ![256, 1024]⟩ : Shape).Idx → EReal) :
    total X E = ∑ b, ∑ d, ∑ p,
      (book E d (near (col X b p) (book E)) - col X b p d) * (book E d (near (col X b p) (book E)) - col X b p d) := by
  unfold total
  refine Finset.sum_congr rfl fun b _ => ?_
  rw [Finset.sum_comm]
  exact Finset.sum_congr rfl fun p _ => sqDist_eq _ _ _

end Cert.Vq

end
-- ==== Proof.RefRead.lean ====
/- The reference's stages read at an index, for finite arguments. -/
module

public import proofs.«01_k».proof.Proof.RefRun
public import proofs.«01_k».proof.Proof.Maths
public import Idealize.ShloMosaic.Lib.Pointwise
public import Idealize.ShloMosaic.PureOps.Reduce
public import Idealize.ShloMosaic.PureOps.Ideal.Laws
public import Idealize.ShloMosaic.Lib.IdealHost

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.Vq

/-- The image of row `n`. -/
def img (n : Fin 16384) : Fin 16 := ⟨n.val / 1024, by omega⟩
/-- The position of row `n` in its image. -/
def pos (n : Fin 16384) : Fin 1024 := ⟨n.val % 1024, by omega⟩

/-- The input laid out in rows, one for each image and position, at an index. -/
theorem rows_at (X : FVec Ideal S16x256x1024 .f32) (n : Fin 16384) (d : Fin 256) :
    rows X (ix2 n d) = X (ix3 (img n) d (pos n)) := by
  pointwise [rows]
  rfl

/-! ## The distances -/

variable (X : FVec Ideal S16x256x1024 .f32) (E : FVec Ideal S256x1024 .f32)

/-- The reference's distance of a row to an entry. -/
theorem dist_at (hX : ∀ b d p, X (ix3 b d p) = (col X b p d : EReal)) (hE : ∀ d k, E (ix2 d k) = (book E d k : EReal))
    (n : Fin 16384) (k : Fin 1024) :
    dist X E (ix2 n k) = (sqDist (col X (img n) (pos n)) (book E) k : EReal) := by
  pointwise [dist, rows_at]
  rw [ofBits_two]
  simp only [hX, hE]
  exact sqDist_contracted _ _ _

/-! ## The search -/

/-- An arg-reduction ends at a least pair of its fiber, or at its initial pair. -/
theorem argReduce_least {s t u : Shape} {axes : List (Fin s.rank)}
    (r : EReal × BitVec 32 → EReal × BitVec 32 → EReal × BitVec 32)
    (hl : ∀ a b, PairLe (r a b) a) (hr : ∀ a b, PairLe (r a b) b) (he : ∀ a b, r a b = a ∨ r a b = b)
    (x : FVec Ideal s .f32) (y : IVec s 32) (ix : FVec Ideal u .f32) (iy : IVec u 32) (h : s.ReducesTo axes t) (hu : 0 < u.numel) (j : t.Idx) :
    (Host.argReduce (F := Ideal) r x y ix iy h hu j = (ix (Shape.Idx.first hu), iy (Shape.Idx.first hu))
      ∨ ∃ i, h.drop i = j ∧ Host.argReduce (F := Ideal) r x y ix iy h hu j = (x i, y i))
    ∧ ∀ i, h.drop i = j → PairLe (Host.argReduce (F := Ideal) r x y ix iy h hu j) (x i, y i) := by
  rw [Ideal.argReduce_eq_reduce2, Host.reduce2_eq_foldl_fiber]
  obtain ⟨h1, -, h3⟩ := fold_least r hl hr he (Host.argReduceFiber x y h j) (ix (Shape.Idx.first hu), iy (Shape.Idx.first hu))
  refine ⟨h1.imp id fun h1 => ?_, fun i hi => h3 _ ?_⟩
  · obtain ⟨n, hn, e⟩ := List.mem_map.1 h1
    exact ⟨s.rowMajor.symm n, of_decide_eq_true (List.mem_filter.1 hn).2, e.symm⟩
  · exact List.mem_map.2 ⟨s.rowMajor i, List.mem_filter.2 ⟨List.mem_finRange _, by simp [hi]⟩, by simp⟩

/-- The comparison of two (value, number) pairs, opened. -/
theorem reducer_eq (a b : EReal × BitVec 32) :
    reducer_argmin_f32_i32 (F := Ideal) a b = if a.1 < b.1 ∨ (a.1 = b.1 ∧ a.2.toInt < b.2.toInt) then a else b := by
  obtain ⟨a1, a2⟩ := a
  obtain ⟨b1, b2⟩ := b
  simp only [reducer_argmin_f32_i32, Ideal.cmpf_def, Ideal.cmp, IntOp.ori, IntOp.andi, IntOp.cmpi, Scalar.select, BitVec.slt]
  rcases lt_trichotomy a1 b1 with h | h | h
  · simp [h, h.ne]
  · subst h
    by_cases h2 : a2.toInt < b2.toInt <;> simp [h2]
  · simp [h.not_gt, h.ne']

/-- The step of the reference's argmin gives a pair at most its first. -/
theorem reducer_left (a b : EReal × BitVec 32) : PairLe (reducer_argmin_f32_i32 (F := Ideal) a b) a := by
  rw [reducer_eq]
  split
  · exact PairLe.refl a
  · rename_i h
    rcases lt_trichotomy b.1 a.1 with h1 | h1 | h1
    · exact .inl h1
    · exact .inr ⟨h1, not_lt.1 fun h2 => h (.inr ⟨h1.symm, h2⟩)⟩
    · exact absurd (.inl h1) h

/-- The step of the reference's argmin gives a pair at most its second. -/
theorem reducer_right (a b : EReal × BitVec 32) : PairLe (reducer_argmin_f32_i32 (F := Ideal) a b) b := by
  rw [reducer_eq]
  split
  · rename_i h
    exact h.imp id fun h => ⟨h.1, h.2.le⟩
  · exact PairLe.refl b

/-- The step of the reference's argmin gives one of its two pairs. -/
theorem reducer_either (a b : EReal × BitVec 32) :
    reducer_argmin_f32_i32 (F := Ideal) a b = a ∨ reducer_argmin_f32_i32 (F := Ideal) a b = b := by
  rw [reducer_eq]
  split
  · exact .inl rfl
  · exact .inr rfl

/-- The number an arg-reduction by the least pair ends at, when the fiber holds the values of `f` with their numbers. -/
theorem argReduce_number {s t u : Shape} {axes : List (Fin s.rank)}
    (r : EReal × BitVec 32 → EReal × BitVec 32 → EReal × BitVec 32)
    (hl : ∀ a b, PairLe (r a b) a) (hr : ∀ a b, PairLe (r a b) b) (he : ∀ a b, r a b = a ∨ r a b = b)
    (x : FVec Ideal s .f32) (y : IVec s 32) (ix : FVec Ideal u .f32) (iy : IVec u 32) (h : s.ReducesTo axes t)
    (hu : 0 < u.numel) (j : t.Idx) (f : Fin 1024 → ℝ) (at_ : Fin 1024 → s.Idx)
    (hat : ∀ i, h.drop i = j ↔ ∃ k, at_ k = i) (hx : ∀ k, x (at_ k) = (f k : EReal))
    (hy : ∀ k, y (at_ k) = BitVec.ofNat 32 k.val) (hix : ∀ i, ix i = (⊤ : EReal)) (hiy : ∀ i, iy i = 0#32) :
    numbers r x y ix iy h hu j = BitVec.ofNat 32 (best f).val := by
  obtain ⟨h1, h2⟩ := argReduce_least r hl hr he x y ix iy h hu j
  refine least_pair f _ ?_ fun k => ?_
  · rcases h1 with h1 | ⟨i, hi, h1⟩
    · exact .inl (h1.trans (Prod.ext (hix _) (hiy _)))
    · obtain ⟨k, rfl⟩ := (hat i).1 hi
      exact .inr ⟨k, h1.trans (Prod.ext (hx k) (hy k))⟩
  · have h := h2 (at_ k) ((hat _).2 ⟨k, rfl⟩)
    rw [hx k, hy k] at h
    exact h

/-- The number found for row `n`. -/
theorem nearest_at (D : FVec Ideal S16384x1024 .f32) (n : Fin 16384) (f : Fin 1024 → ℝ)
    (hD : ∀ k, D (ix2 n k) = (f k : EReal)) : nearest D (ix1 n) = BitVec.ofNat 32 (best f).val :=
  argReduce_number (reducer_argmin_f32_i32 (F := Ideal)) reducer_left reducer_right reducer_either
    D (iotaInDim S16384x1024 32 1) (constant S_ .f32 0x7F800000#32) (constantI S_ 32 0#32)
    reducesTo_S16384x1024_S16384_d1 h_S_ (ix1 n) f (fun k => ix2 n k)
    (fun i => reducesTo_S16384x1024_S16384_d1.fiber_r2_a1 (ix1 n) i) hD (fun _ => rfl) (fun _ => ofBits_posInf) (fun _ => rfl)

/-! ## The lookup -/

/-- An entry number is not negative, as the wrap of negative indices asks. -/
theorem num_not_neg (k : Fin 1024) : IntOp.cmpi .slt (BitVec.ofNat 32 k.val) 0#32 = 0#1 := by
  have h : (0#32 : BitVec 32).toInt = 0 := by decide
  simp only [IntOp.cmpi, BitVec.slt, toInt_num, h]
  rw [decide_eq_false (by omega)]; rfl

/-- An entry number is at least zero, as the range test asks. -/
theorem num_nonneg (k : Fin 1024) : IntOp.cmpi .sge (BitVec.ofNat 32 k.val) 0#32 = 1#1 := by
  simp [IntOp.cmpi, BitVec.sle, toInt_num]

/-- An entry number is at most 1023, as the range test asks. -/
theorem num_le (k : Fin 1024) : IntOp.cmpi .sle (BitVec.ofNat 32 k.val) 1023#32 = 1#1 := by
  have hk := k.isLt
  have h : (1023#32 : BitVec 32).toInt = 1023 := by decide
  simp only [IntOp.cmpi, BitVec.sle, toInt_num, h]
  rw [decide_eq_true (by omega)]; rfl

/-- The wrap of negative indices leaves an entry number as it is. -/
theorem wrapped_at (I : IVec S16384 32) (n : Fin 16384) (k : Fin 1024) (h : I (ix1 n) = BitVec.ofNat 32 k.val) :
    wrapped I (ix2 n 0) = BitVec.ofNat 32 k.val := by
  pointwise [wrapped]
  rw [h, num_not_neg]
  rfl

/-- An entry number passes the range test. -/
theorem inRange_at (J : IVec S16384x1 32) (n : Fin 16384) (k : Fin 1024) (h : J (ix2 n 0) = BitVec.ofNat 32 k.val) :
    inRange J (ix1 n) = 1#1 := by
  pointwise [inRange]
  rw [show (Finset.univ : Finset (Fin 1)) = {0} from rfl, Finset.fold_singleton, h, num_nonneg, num_le]
  rfl

/-- A lookup of one column per number: where the number is `k`, the column is column `k`. -/
theorem gather_col {α : Type} {A B n : Nat} (g : GatherDims (⟨2, ![A, B]⟩ : Shape) (⟨2, ![n, 1]⟩ : Shape) (⟨2, ![A, n]⟩ : Shape))
    (hoff : g.offsetDims = [0]) (hcoll : g.collapsedSliceDims = [1]) (hob : g.operandBatchingDims = [])
    (hsim : g.startIndexMap = [1]) (hivd : g.indexVectorDim = 1) (x : (⟨2, ![A, B]⟩ : Shape).Idx → α)
    (J : IVec (⟨2, ![n, 1]⟩ : Shape) 32) (d : Fin A) (c : Fin n) (k : Fin B)
    (hk : (J (ix2 c (0 : Fin 1))).toInt = (k.val : ℤ)) : Host.gather g x J (ix2 d c) = x (ix2 d k) := by
  unfold Host.gather
  refine congrArg x (funext fun a => Fin.ext ?_)
  have hbN : ∀ a', a' ∉ g.operandBatchingDims := fun a' => by rw [hob]; exact List.not_mem_nil
  have hB : ∀ a ∈ g.batchDims, a = (1 : Fin 2) := fun a ha => by
    have ha' : a ∉ g.offsetDims := of_decide_eq_true (List.mem_filter.1 ha).2
    rw [hoff] at ha'
    have h0 : a.val ≠ 0 := fun e => ha' (List.mem_singleton.2 (Fin.ext e))
    have h2 : a.val < 2 := a.isLt
    exact Fin.ext (by show a.val = 1; omega)
  have hO : ∀ a ∈ g.offsetDims, a = (0 : Fin 2) := fun a ha => by rw [hoff] at ha; exact List.mem_singleton.1 ha
  have h01 : (0 : Fin 2) ∉ [(1 : Fin 2)] := by decide
  have e0 : ∀ Y : Fin 2, Y = 0 → (ix2 d c Y).val = d.val := fun Y h => by subst h; rfl
  have e1 : ∀ Y : Fin 2, Y = 1 → (ix2 d c Y).val = c.val := fun Y h => by subst h; rfl
  match a with
  | ⟨0, _⟩ =>
    have hs : (0 : Fin 2) ∈ g.sKept := (g.mem_sKept 0).2 ⟨by rw [hcoll]; exact h01, hbN 0⟩
    have hm : (0 : Fin 2) ∉ g.startIndexMap := by rw [hsim]; exact h01
    show g.start (ix2 d c) J 0 + g.batchCoord (ix2 d c) 0 + g.offCoord (ix2 d c) 0 = d.val
    rw [g.batchCoord_eq_zero _ _ (hbN 0), Nat.add_zero]
    unfold GatherDims.start GatherDims.offCoord
    rw [dif_neg hm, dif_pos hs, Nat.zero_add]
    exact e0 _ (hO _ (List.getElem_mem _))
  | ⟨1, _⟩ =>
    have hs : (1 : Fin 2) ∉ g.sKept := fun h => ((g.mem_sKept 1).1 h).1 (by rw [hcoll]; exact List.mem_singleton.2 rfl)
    have hm : (1 : Fin 2) ∈ g.startIndexMap := by rw [hsim]; exact List.mem_singleton.2 rfl
    have hsl : g.sliceSizes 1 = 1 := g.slice_collapsed 1 (by rw [hcoll]; exact List.mem_singleton.2 rfl)
    show g.start (ix2 d c) J 1 + g.batchCoord (ix2 d c) 1 + g.offCoord (ix2 d c) 1 = k.val
    rw [g.batchCoord_eq_zero _ _ (hbN 1), g.offCoord_eq_zero _ _ hs]
    simp only [Nat.add_zero]
    unfold GatherDims.start
    rw [dif_pos hm]
    have hi : g.siIdx (ix2 d c) ⟨g.startIndexMap.idxOf 1, List.idxOf_lt_length_iff.2 hm⟩ = ix2 c (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact e1 _ (hB _ (List.getElem_mem _))
      | ⟨1, _⟩ =>
        unfold GatherDims.siIdx
        rw [dif_pos (by rw [hivd])]
        show List.idxOf (1 : Fin 2) g.startIndexMap = 0
        rw [hsim]; simp
    have hkl := k.isLt
    rw [hi, hk, hsl]
    show min ((k.val : ℤ)).toNat (B - 1) = k.val
    omega

/-- The lookup of an entry number gives that entry of the codebook. -/
theorem taken_at (J : IVec S16384x1 32) (n : Fin 16384) (k : Fin 1024) (h : J (ix2 n 0) = BitVec.ofNat 32 k.val) (d : Fin 256) :
    taken E J (ix2 d n) = E (ix2 d k) := by
  pointwise [taken]
  rw [inRange_at J n k h]
  exact gather_col gather_S256x1024_S16384x1_S256x16384_0_1_n_n_1_1_2561 rfl rfl rfl rfl rfl E J d n k
    (by rw [h]; exact toInt_num k)

/-- The looked-up entries in the layout of the input, at an index. -/
theorem quant_at (T : FVec Ideal S256x16384 .f32) (b : Fin 16) (d : Fin 256) (p : Fin 1024) :
    quant T (ix3 b d p) = T (ix2 d ⟨b.val * 1024 + p.val, by omega⟩) := by
  pointwise [quant]

/-- The loss as a sum of squared differences over the count of the values. -/
theorem loss_eq (Q : FVec Ideal S16x256x1024 .f32) (j : S_.Idx) :
    loss Q X j = Ideal.div (∑ b : Fin 16, ∑ d : Fin 256, ∑ p : Fin 1024,
      (Q (ix3 b d p) - X (ix3 b d p)) * (Q (ix3 b d p) - X (ix3 b d p))) (Ideal.ofBits .f32 0x4A800000#32) := by
  pointwise [loss]

/-! ## The three results -/

/-- The first result at an index: the input plus the difference. -/
theorem straight_read (Q : FVec Ideal S16x256x1024 .f32) (b : Fin 16) (d : Fin 256) (p : Fin 1024) :
    straight Q X (ix3 b d p) = X (ix3 b d p) + (Q (ix3 b d p) - X (ix3 b d p)) := by
  pointwise [straight]

/-- The second result at an index: the number of that row. -/
theorem split_read (I : IVec S16384 32) (b : Fin 16) (p : Fin 1024) :
    shapeCast S16x1024 I shapeCasts_S16384_S16x1024 (ix2 b p) = I (ix1 ⟨b.val * 1024 + p.val, by omega⟩) := by
  pointwise

section Results
variable (hX : ∀ b d p, X (ix3 b d p) = (col X b p d : EReal)) (hE : ∀ d k, E (ix2 d k) = (book E d k : EReal))

include hX hE in
/-- The number found for row `n` is the nearest entry's. -/
theorem idx_at (n : Fin 16384) :
    idx X E (ix1 n) = BitVec.ofNat 32 (near (col X (img n) (pos n)) (book E)).val :=
  nearest_at _ n _ fun k => dist_at X E hX hE n k

include hX hE in
/-- The looked-up values are the nearest entry's. -/
theorem q_at (b : Fin 16) (d : Fin 256) (p : Fin 1024) :
    q X E (ix3 b d p) = (book E d (near (col X b p) (book E)) : EReal) := by
  have hn : b.val * 1024 + p.val < 16384 := by omega
  have hb : img ⟨b.val * 1024 + p.val, hn⟩ = b := Fin.ext (by show (b.val * 1024 + p.val) / 1024 = b.val; omega)
  have hp : pos ⟨b.val * 1024 + p.val, hn⟩ = p := Fin.ext (by show (b.val * 1024 + p.val) % 1024 = p.val; omega)
  have hi := idx_at X E hX hE ⟨b.val * 1024 + p.val, hn⟩
  rw [hb, hp] at hi
  unfold q
  rw [quant_at, taken_at E _ _ _ (wrapped_at _ _ _ hi), hE]

include hX hE in
/-- The first result holds the nearest entries. -/
theorem straight_at (b : Fin 16) (d : Fin 256) (p : Fin 1024) :
    straight (q X E) X (ix3 b d p) = (book E d (near (col X b p) (book E)) : EReal) := by
  rw [straight_read, q_at X E hX hE, hX]
  exact add_sub_real _ _

include hX hE in
/-- The second result holds the nearest entries' numbers. -/
theorem number_at (b : Fin 16) (p : Fin 1024) :
    shapeCast S16x1024 (idx X E) shapeCasts_S16384_S16x1024 (ix2 b p)
      = BitVec.ofNat 32 (near (col X b p) (book E)).val := by
  have hn : b.val * 1024 + p.val < 16384 := by omega
  have hb : img ⟨b.val * 1024 + p.val, hn⟩ = b := Fin.ext (by show (b.val * 1024 + p.val) / 1024 = b.val; omega)
  have hp : pos ⟨b.val * 1024 + p.val, hn⟩ = p := Fin.ext (by show (b.val * 1024 + p.val) % 1024 = p.val; omega)
  have hi := idx_at X E hX hE ⟨b.val * 1024 + p.val, hn⟩
  rw [hb, hp] at hi
  rw [split_read, hi]

include hX hE in
/-- The third result is the total over the count of the values. -/
theorem loss_at (j : S_.Idx) :
    loss (q X E) X j = Ideal.div (total X E : EReal) (Ideal.ofBits .f32 0x4A800000#32) := by
  rw [loss_eq, total_eq]
  simp only [q_at X E hX hE, hX, ← EReal.coe_sub, ← EReal.coe_mul, ← coe_sum]

end Results

end Cert.ReferenceIdeal.Stage

end
-- ==== Proof.KernelRead.lean ====
/- What one grid point of the kernel computes, read at an index, from the blocks it loads. -/
module

public import proofs.«01_k».proof.Defs
public import proofs.«01_k».proof.Proof.Gen.KernelIdeal.Skeleton
public import proofs.«01_k».proof.Proof.Maths
public import Idealize.ShloMosaic.Lib.Pointwise
public import Idealize.ShloMosaic.PureOps.Ideal.Laws
public import Idealize.ShloMosaic.Lib.IdealHost

@[expose] public section

set_option maxRecDepth 16384

noncomputable section

namespace Cert.KernelIdeal.Blk

open Idealize.ShloMosaic Idealize.ShloMosaic.TcCoe Idealize.SL.Sem
open Cert.KernelIdeal Cert.KernelIdeal.Gen Cert.Vq

/-- What the four loaded blocks hold: the columns `x` of one image, the codebook `e`, the codebook transposed and doubled,
    and the reversed numbers. -/
structure Holds (v0 : Vec Ideal S1x256x1024 .f32) (v2 : Vec Ideal S256x1024 .f32) (v3 : Vec Ideal S1024x256 .f32)
    (v5 : Vec Ideal S1024x1 .f32) (x : Fin 1024 → Fin 256 → ℝ) (e : Fin 256 → Fin 1024 → ℝ) : Prop where
  cols : ∀ (d : Fin 256) (p : Fin 1024), v0 (ix3 (0 : Fin 1) d p) = (x p d : EReal)
  book : ∀ (d : Fin 256) (k : Fin 1024), v2 (ix2 d k) = (e d k : EReal)
  doubled : ∀ (d : Fin 256) (k : Fin 1024), v3 (ix2 k d) = ((2 : ℝ) : EReal) * (e d k : EReal)
  revs : ∀ k : Fin 1024, v5 (ix2 k (0 : Fin 1)) = (rev k : EReal)

variable {v0 : Vec Ideal S1x256x1024 .f32} {v2 : Vec Ideal S256x1024 .f32} {v3 : Vec Ideal S1024x256 .f32}
  {v5 : Vec Ideal S1024x1 .f32} {x : Fin 1024 → Fin 256 → ℝ} {e : Fin 256 → Fin 1024 → ℝ}

/-- The distances of the block. -/
theorem dist_at (H : Holds v0 v2 v3 v5 x e) (k p : Fin 1024) :
    k0_pay5 (F := Ideal) v0 v2 v3 (ix2 k p) = (sqDist (x p) e k : EReal) := by
  pointwise [k0_pay5]
  simp only [H.cols, H.book, H.doubled]
  exact sqDist_doubled _ _ _

/-- The least distance of a position, as a fold over the entries. -/
theorem least_read (p : Fin 1024) : k0_pay6 (F := Ideal) v0 v2 v3 (ix2 (0 : Fin 1) p)
    = Finset.univ.fold min (Ideal.ofBits .f32 0x7F800000#32) fun k : Fin 1024 => k0_pay5 (F := Ideal) v0 v2 v3 (ix2 k p) := by
  pointwise [k0_pay6]

/-- The least distance of each column. -/
theorem least_at (H : Holds v0 v2 v3 v5 x e) (p : Fin 1024) :
    k0_pay6 (F := Ideal) v0 v2 v3 (ix2 (0 : Fin 1) p) = (sqDist (x p) e (near (x p) e) : EReal) := by
  rw [least_read, ofBits_posInf]
  simp only [dist_at H]
  exact fold_min_best _

/-- The largest reversed number among the entries at the least distance, as a fold over the entries. -/
theorem largest_read (p : Fin 1024) : k0_pay7 (F := Ideal) v0 v2 v3 v5 (ix2 (0 : Fin 1) p)
    = Finset.univ.fold max (Ideal.ofBits .f32 0xFF800000#32) fun k : Fin 1024 =>
      if k0_pay5 (F := Ideal) v0 v2 v3 (ix2 k p) = k0_pay6 (F := Ideal) v0 v2 v3 (ix2 (0 : Fin 1) p)
        then v5 (ix2 k (0 : Fin 1)) else (0 : EReal) := by
  pointwise [k0_pay7, k0_pay4]

/-- The reversed number of the nearest entry of each column. -/
theorem largest_at (H : Holds v0 v2 v3 v5 x e) (p : Fin 1024) :
    k0_pay7 (F := Ideal) v0 v2 v3 v5 (ix2 (0 : Fin 1) p) = (rev (near (x p) e) : EReal) := by
  rw [largest_read, ofBits_negInf]
  simp only [dist_at H, least_at H, H.revs]
  exact fold_max_best _

/-- The stored number of a position: 1024 less the largest reversed number, as an integer. -/
theorem number_read (p : Fin 1024) : k0_pay8 (F := Ideal) v0 v2 v3 v5 (ix3 (0 : Fin 1) (0 : Fin 1) p)
    = Ideal.fptosi 32 (Ideal.ofBits .f32 0x44800000#32 - k0_pay7 (F := Ideal) v0 v2 v3 v5 (ix2 (0 : Fin 1) p)) := by
  pointwise [k0_pay8]
  rfl

/-- The number of the nearest entry of each column. -/
theorem number_at (H : Holds v0 v2 v3 v5 x e) (p : Fin 1024) :
    k0_pay8 (F := Ideal) v0 v2 v3 v5 (ix3 (0 : Fin 1) (0 : Fin 1) p) = BitVec.ofNat 32 (near (x p) e).val := by
  rw [number_read, largest_at H, ofBits_1024]
  exact number_of_rev _

/-- The stored value of a feature at a position: the product of the codebook with the indicator. -/
theorem quant_read (d : Fin 256) (p : Fin 1024) :
    k0_pay1 (F := Ideal) v2 (k0_pay9 (F := Ideal) v0 v2 v3 v5) (Scalar.ofBits .f32 0x3F800000#32) (ix3 (0 : Fin 1) d p)
    = ∑ k : Fin 1024, v2 (ix2 d k) *
        (if v5 (ix2 k (0 : Fin 1)) = k0_pay7 (F := Ideal) v0 v2 v3 v5 (ix2 (0 : Fin 1) p) then (1 : EReal) else 0) := by
  pointwise [k0_pay1, k0_pay9, k0_pay4]

/-- The nearest entry of each column. -/
theorem quant_at (H : Holds v0 v2 v3 v5 x e) (d : Fin 256) (p : Fin 1024) :
    k0_pay1 (F := Ideal) v2 (k0_pay9 (F := Ideal) v0 v2 v3 v5) (Scalar.ofBits .f32 0x3F800000#32) (ix3 (0 : Fin 1) d p)
    = (e d (near (x p) e) : EReal) := by
  rw [quant_read]
  simp only [largest_at H, H.book, H.revs]
  exact one_hot_sum _ _

/-- The sum of a row of least distances. -/
theorem sum_read (v20 : FVec Ideal S1x1024 .f32) :
    k0_pay2 (F := Ideal) v20 = ∑ p : Fin 1024, v20 (ix2 (0 : Fin 1) p) := by
  pointwise [k0_pay2]
  exact Fin.sum_univ_one _

/-- The sum of the least distances of the block. -/
theorem sum_at (H : Holds v0 v2 v3 v5 x e) :
    k0_pay2 (F := Ideal) (k0_pay6 (F := Ideal) v0 v2 v3) = ((∑ p, sqDist (x p) e (near (x p) e) : ℝ) : EReal) := by
  rw [sum_read, coe_sum]
  exact Finset.sum_congr rfl fun p _ => least_at H p

end Cert.KernelIdeal.Blk

end
-- ==== Proof.KernelEntry.lean ====
/- What the kernel's grid finds in its arrays, and what each grid point's loaded blocks hold. -/
module

public import proofs.«01_k».proof.Proof.KernelRead
public import proofs.«01_k».proof.Proof.Gen.KernelIdeal.Frame
public import Idealize.ShloMosaic.Lib.Pipeline.ValueKit

@[expose] public section

set_option maxRecDepth 16384

noncomputable section

namespace Cert.KernelIdeal.Blk

open Idealize.ShloMosaic Idealize.ShloMosaic.TcCoe Idealize.SL.Sem
open Cert.KernelIdeal Cert.KernelIdeal.Gen Cert.Vq

variable (m : (ℓ : Loc nD τ sig) → Buf (Elt Ideal) ℓ)

/-- The blocks of the windows, by grid point. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-- The codebook transposed and doubled. -/
def doubled (E : FVec Ideal S256x1024 .f32) : FVec Ideal S1024x256 .f32 :=
  mulf (broadcastInDim S1024x256 ![] bcast_S_S1024x256 (constant S_ .f32 0x40000000#32))
    (transpose S1024x256 [1, 0] E transposes_S256x1024_S1024x256_1_0)

/-- The numbers counted down from 1024. -/
def reversed : FVec Ideal S1024x1 .f32 :=
  shapeCast S1024x1 (subf (broadcastInDim S1024 ![] bcast_S_S1024 (constant S_ .f32 0x44800000#32))
    (sitofp .f32 (iotaInDim S1024 32 0))) shapeCasts_S1024_S1024x1

/-- The third array that the grid reads holds the doubled transpose of the codebook. -/
theorem V_doubled (c : Dev nD) : V m c main_v2 = doubled (m ((c.tc : Thread nD τ).loc main_arg1)) := by
  entry_read
  rfl

/-- The fourth array that the grid reads holds the reversed numbers. -/
theorem V_reversed (c : Dev nD) : V m c main_v6 = reversed := by
  entry_read
  rfl

/-- The doubled transpose at an index. -/
theorem doubled_at (E : FVec Ideal S256x1024 .f32) (d : Fin 256) (k : Fin 1024) :
    doubled E (ix2 k d) = ((2 : ℝ) : EReal) * E (ix2 d k) := by
  pointwise [doubled]
  rw [ofBits_two]

/-- The reversed numbers at an index. -/
theorem reversed_at (k : Fin 1024) : reversed (ix2 k (0 : Fin 1)) = (rev k : EReal) := by
  pointwise [reversed]
  rw [ofBits_1024]
  show ((1024 : ℝ) : EReal) - (((BitVec.ofNat 32 k.val).toInt : ℝ) : EReal) = (rev k : EReal)
  rw [toInt_num, ← EReal.coe_sub]
  rfl

/-- The blocks a grid point loads. -/
theorem holds (c : Dev nD) (t : Fin cfg0.N) (b : Fin 16) (hb : t.val = b.val)
    (hX : ∀ b d p, (m ((c.tc : Thread nD τ).loc main_arg0) : FVec Ideal S16x256x1024 .f32) (ix3 b d p)
      = (col (m ((c.tc : Thread nD τ).loc main_arg0)) b p d : EReal))
    (hE : ∀ d k, (m ((c.tc : Thread nD τ).loc main_arg1) : FVec Ideal S256x1024 .f32) (ix2 d k)
      = (book (m ((c.tc : Thread nD τ).loc main_arg1)) d k : EReal)) :
    Holds (iblk m c 0 t) (iblk m c 1 t) (iblk m c 2 t) (iblk m c 3 t)
      (fun p => col (m ((c.tc : Thread nD τ).loc main_arg0)) b p) (Vq.book (m ((c.tc : Thread nD τ).loc main_arg1))) where
  cols d p := by
    rw [← hX]
    blk_point [iblk, V, idx t]
  book d k := by
    rw [← hE]
    blk_point [iblk, V, idx t]
  doubled d k := by
    rw [← hE, ← doubled_at, ← V_doubled]
    blk_point [iblk, idx t]
  revs k := by
    rw [← reversed_at, ← V_reversed m c]
    blk_point [iblk, idx t]

end Cert.KernelIdeal.Blk

end
-- ==== Proof.KernelArrays.lean ====
/- What the kernel's three output arrays hold after the grid. -/
module

public import proofs.«01_k».proof.Proof.KernelEntry

@[expose] public section

set_option maxRecDepth 16384

noncomputable section

namespace Cert.KernelIdeal.Blk

open Idealize.ShloMosaic Idealize.ShloMosaic.TcCoe Idealize.SL.Sem
open Cert.KernelIdeal Cert.KernelIdeal.Gen Cert.Vq

variable (m : (ℓ : Loc nD τ sig) → Buf (Elt Ideal) ℓ) (c : Dev nD)

/-- Both arguments hold real numbers. -/
def Reals : Prop :=
  (∀ b d p, (m ((c.tc : Thread nD τ).loc main_arg0) : FVec Ideal S16x256x1024 .f32) (ix3 b d p)
      = (col (m ((c.tc : Thread nD τ).loc main_arg0)) b p d : EReal))
  ∧ ∀ d k, (m ((c.tc : Thread nD τ).loc main_arg1) : FVec Ideal S256x1024 .f32) (ix2 d k)
      = (book (m ((c.tc : Thread nD τ).loc main_arg1)) d k : EReal)

/-- The number of the entry nearest to position `p` of image `b`. -/
abbrev nearAt (b : Fin 16) (p : Fin 1024) : Fin 1024 :=
  near (col (m ((c.tc : Thread nD τ).loc main_arg0)) b p) (book (m ((c.tc : Thread nD τ).loc main_arg1)))

/-- The nearest entries, in the layout of the input. -/
def entries : FVec Ideal S16x256x1024 .f32 :=
  fun j => (book (m ((c.tc : Thread nD τ).loc main_arg1)) (j 1) (nearAt m c (j 0) (j 2)) : EReal)

/-- The nearest entries' numbers, image by image. -/
def numbers : IVec S16x1x1024 32 := fun j => BitVec.ofNat 32 (nearAt m c (j 0) (j 2)).val

variable {m c}

/-- What a grid point stores into its block of the first array. -/
theorem entries_point (H : Reals m c) (t : Fin cfg0.N) (d : Fin 256) (p : Fin 1024) :
    (outsAt0 m c t.val t.isLt).1 (ix3 (0 : Fin 1) d p)
      = (book (m ((c.tc : Thread nD τ).loc main_arg1)) d (nearAt m c ⟨t.val, lt_of_lt_of_eq t.isLt N_0⟩ p) : EReal) := by
  have hh := holds m c t ⟨t.val, lt_of_lt_of_eq t.isLt N_0⟩ rfl H.1 H.2
  have hN := lt_of_lt_of_eq t.isLt N_0
  by_cases h0 : t.val % 16 = 0
  · rw [outsAt0_A m c t h0 (by omega)]
    frame_out
    exact quant_at hh d p
  · rw [outsAt0_B m c t h0 (by omega)]
    frame_out
    exact quant_at hh d p

/-- What a grid point stores into its block of the second array. -/
theorem numbers_point (H : Reals m c) (t : Fin cfg0.N) (p : Fin 1024) :
    (outsAt0 m c t.val t.isLt).2.1 (ix3 (0 : Fin 1) (0 : Fin 1) p)
      = BitVec.ofNat 32 (nearAt m c ⟨t.val, lt_of_lt_of_eq t.isLt N_0⟩ p).val := by
  have hh := holds m c t ⟨t.val, lt_of_lt_of_eq t.isLt N_0⟩ rfl H.1 H.2
  have hN := lt_of_lt_of_eq t.isLt N_0
  by_cases h0 : t.val % 16 = 0
  · rw [outsAt0_A m c t h0 (by omega)]
    frame_out
    exact number_at hh p
  · rw [outsAt0_B m c t h0 (by omega)]
    frame_out
    exact number_at hh p

/-- The first array after the grid. -/
theorem entries_final (H : Reals m c) : (dats m 0 c).arrAt 4 (cfgs 0).N = entries m c := by
  refine (dats m 0 c).arrAt_eq_of_covers 4 _ (by decide +kernel) fun t hf y => ?_
  blk_simp
  rw [after0_4]
  idx_vars y
  obtain rfl : y0 = 0 := Subsingleton.elim _ _
  have e : (((View.whole main_v7_0).slice (win0_4.rect t)).emb (ix3 (0 : Fin 1) y1 y2) : S16x256x1024.Idx)
      = ix3 (⟨t.val, lt_of_lt_of_eq t.isLt N_0⟩ : Fin 16) y1 y2 := by blk_ext [idx t]
  exact (entries_point H t y1 y2).trans (congrArg (entries m c) e).symm

/-- The second array after the grid. -/
theorem numbers_final (H : Reals m c) : (dats m 0 c).arrAt 5 (cfgs 0).N = numbers m c := by
  refine (dats m 0 c).arrAt_eq_of_covers 5 _ (by decide +kernel) fun t hf y => ?_
  blk_simp
  rw [after0_5]
  idx_vars y
  obtain rfl : y0 = 0 := Subsingleton.elim _ _
  obtain rfl : y1 = 0 := Subsingleton.elim _ _
  have e : (((View.whole main_v7_1).slice (win0_5.rect t)).emb (ix3 (0 : Fin 1) (0 : Fin 1) y2) : S16x1x1024.Idx)
      = ix3 (⟨t.val, lt_of_lt_of_eq t.isLt N_0⟩ : Fin 16) (0 : Fin 1) y2 := by blk_ext [idx t]
  exact (numbers_point H t y2).trans (congrArg (numbers m c) e).symm

/-- A later grid point adds its sum to the running one. -/
theorem step_read (v20 : FVec Ideal S1x1024 .f32) (acc : Vec Ideal S1x1 .f32) :
    k0_pay3 (F := Ideal) v20 (acc (ix2 (0 : Fin 1) (0 : Fin 1))) = acc (ix2 (0 : Fin 1) (0 : Fin 1)) + k0_pay2 (F := Ideal) v20 :=
  rfl

/-- The running sum after the grid. -/
theorem total_final (H : Reals m c) : (dats m 0 c).arrAt 6 (cfgs 0).N
    = fun _ => (total (m ((c.tc : Thread nD τ).loc main_arg0)) (m ((c.tc : Thread nD τ).loc main_arg1)) : EReal) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun p _ => k0_pay2 (F := Ideal) (k0_pay6 (F := Ideal) (iblk m c 0 p) (iblk m c 1 p) (iblk m c 2 p)))
    (fun t h j => by
      have hN := lt_of_lt_of_eq t.isLt N_0
      rw [outsAt0_A m c t h (by omega)]
      frame_out
      exact (zero_add _).symm)
    (fun t h j => by
      have hN := lt_of_lt_of_eq t.isLt N_0
      rw [outsAt0_B m c t h (by omega)]
      frame_out
      idx_vars j
      obtain rfl : j0 = 0 := Subsingleton.elim _ _
      obtain rfl : j1 = 0 := Subsingleton.elim _ _
      refine Eq.trans ?_ (step_read _ _)
      refine congrArg (k0_pay3 (F := Ideal) _) ?_
      exact congrArg (outsAt0 m c (t.val - 1) _).2.2
        (funext fun a => by fin_cases a <;> exact Subsingleton.elim (α := Fin 1) _ _))
    (le_of_eq N_0) t0_15 rfl j, zero_add]
  show (∑ p : Fin cfg0.N, _ : EReal) = _
  rw [total, coe_sum]
  exact Fintype.sum_equiv (finCongr N_0) _ _ fun p =>
    sum_at (holds m c p ⟨p.val, lt_of_lt_of_eq p.isLt N_0⟩ rfl H.1 H.2)

end Cert.KernelIdeal.Blk

end
-- ==== Proof.KernelRun.lean ====
/- The kernel's run: what its three results hold when both arguments hold real numbers. -/
module

public import proofs.«01_k».proof.Proof.KernelArrays

@[expose] public section

set_option maxRecDepth 16384

noncomputable section

namespace Cert.KernelIdeal.Blk

open Idealize.ShloMosaic Idealize.ShloMosaic.TcCoe Idealize.SL.Sem
open Cert.KernelIdeal Cert.KernelIdeal.Gen Cert.Vq

variable (m : (ℓ : Loc nD τ sig) → Buf (Elt Ideal) ℓ) (g : Dev nD → PrngReg)

/-- The running sum, after the grid and as the host divides it. -/
abbrev lossValue (c : Dev nD) : EReal :=
  Ideal.div (total (m ((c.tc : Thread nD τ).loc main_arg0)) (m ((c.tc : Thread nD τ).loc main_arg1)) : EReal)
    (Ideal.ofBits .f32 0x4A800000#32)

section tail

variable (σ : Valuation τ sig (Elt Ideal))

/-- The host's last lines, on any contents: the mean of the running sum. -/
theorem tail_loss : StableHlo.after (hostOps1 (F := Ideal)) σ (Proc.devRef .tc main_v9)
    = Host.divf (F := Ideal) (shapeCast S_ (σ (Proc.devRef .tc main_v7_2) : FVec Ideal S1x1 .f32) shapeCasts_S1x1_S_)
        (constant S_ .f32 0x4A800000#32) := by
  unfold hostOps1
  after_results_simp
  rfl

/-- The host's last lines, on any contents: the numbers in one row for each image. -/
theorem tail_numbers : StableHlo.after (hostOps1 (F := Ideal)) σ (Proc.devRef .tc main_v10)
    = shapeCast S16x1024 (σ (Proc.devRef .tc main_v7_1) : IVec S16x1x1024 32) shapeCasts_S16x1x1024_S16x1024 := by
  unfold hostOps1
  after_results_simp
  rfl

end tail

/-- No two windows share an array. -/
theorem arrays_distinct : Function.Injective (Pipeline.arrRef spec0) := by decide +kernel

/-- The kernel's three results, and its two arguments. -/
theorem run (H : ∀ c, Reals m c) :
    θ_run (defs (F := Ideal)) (onTc (τ := τ) (main (F := Ideal))) ⟨m, fun _ => 0, g⟩ (fun r => ∀ c : Dev nD,
      r.2.mem ((c.tc : Thread nD τ).loc main_v7_0) = entries m c
      ∧ r.2.mem ((c.tc : Thread nD τ).loc main_v10) = shapeCast S16x1024 (numbers m c) shapeCasts_S16x1x1024_S16x1024
      ∧ r.2.mem ((c.tc : Thread nD τ).loc main_v9) = (fun _ => lossValue m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Gen.run_main m g & Gen.frame m g
  · exact entries_final (H c)
  · have h5 := Pipeline.withArrays_arr spec0 arrays_distinct c (V0 m c) (fun w => (dats m 0 c).arrAt w cfg0.N) 5
    refine (tail_numbers _).trans (congrArg (fun a => shapeCast S16x1024 a shapeCasts_S16x1x1024_S16x1024) ?_)
    exact h5.trans (numbers_final (H c))
  · have h6 := Pipeline.withArrays_arr spec0 arrays_distinct c (V0 m c) (fun w => (dats m 0 c).arrAt w cfg0.N) 6
    refine (tail_loss _).trans ?_
    refine (congrArg (fun a => Host.divf (F := Ideal) (shapeCast S_ a shapeCasts_S1x1_S_)
      (constant S_ .f32 0x4A800000#32)) (h6.trans (total_final (H c)))).trans ?_
    rfl

end Cert.KernelIdeal.Blk

end
-- ==== Proof.Finite.lean ====
/- What the precondition says: both arguments hold real numbers. -/
module

public import proofs.«01_k».proof.Proof.KernelArrays
public import proofs.«01_k».proof.Defs

@[expose] public section

noncomputable section

namespace Cert.KernelIdeal.Blk

open Idealize.ShloMosaic Idealize.ShloMosaic.TcCoe Idealize.SL.Sem
open Cert.KernelIdeal Cert.Vq

/-- A value whose magnitude lies below infinity is a real number. -/
theorem real_of_lt (x : EReal) (h : Ideal.cmp .olt (max x (-x)) ⊤ = 1#1) : x = (x.toReal : EReal) := by
  have hl : max x (-x) < ⊤ := by
    by_contra hn
    simp [Ideal.cmp, hn] at h
  refine (EReal.coe_toReal ?_ ?_).symm
  · rintro rfl
    simp at hl
  · rintro rfl
    simp at hl

variable [Cert.Pre_all_finite.Facts]

/-- The precondition, value by value. -/
theorem reals (m : (ℓ : Loc nD τ sig) → Buf (Elt Ideal) ℓ) (h : Cert.Pre_KernelIdeal_all_finite m) (c : Dev nD) : Reals m c := by
  constructor
  · intro b d p
    refine real_of_lt _ ?_
    have hj := congrFun (h c).1 (ix3 b d p)
    rw [← hj, ← ofBits_posInf]
    rfl
  · intro d k
    refine real_of_lt _ ?_
    have hj := congrFun (h c).2 (ix2 d k)
    rw [← hj, ← ofBits_posInf]
    rfl

end Cert.KernelIdeal.Blk

end
-- ==== Proof.lean ====
/- The five claims about the vector-quantisation kernel and its reference: the frames of the three programs, `preserves`
   (nothing was replaced), and `algebraic` for all three results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRead
public import proofs.«01_k».proof.Proof.KernelRun
public import proofs.«01_k».proof.Proof.Finite

@[expose] public section

set_option maxRecDepth 16384

noncomputable section

namespace Cert.Proof

open Idealize.ShloMosaic Idealize.ShloMosaic.TcCoe Idealize.SL.Sem
open Cert.Vq

/-- The kernel's numbers, one row for each image, at an index. -/
theorem number_read (N : IVec Cert.KernelIdeal.S16x1x1024 32) (b : Fin 16) (p : Fin 1024) :
    shapeCast Cert.KernelIdeal.S16x1024 N Cert.KernelIdeal.Gen.facts.shapeCasts_S16x1x1024_S16x1024 (ix2 b p)
      = N (ix3 b (0 : Fin 1) p) := by
  pointwise

/-- From the same real arguments the kernel and the reference end with the same three results. -/
theorem results [Cert.Pre_all_finite.Facts] : Cert.algebraic_KernelIdeal_ReferenceIdeal_pre_all_finite := by
  intro m g m' g' hpre hagree
  have H := Cert.KernelIdeal.Blk.reals m hpre
  refine ⟨_, _, _, Cert.KernelIdeal.Blk.run m g H, ?_⟩
  refine (θ_run Cert.ReferenceIdeal.defs _ _).mono (fun r h c => ?_) (Cert.ReferenceIdeal.Stage.run m' g')
  obtain ⟨h0, h1, h2, ha0, ha1⟩ := h c
  obtain ⟨e0, e1⟩ := hagree c
  obtain ⟨hX, hE⟩ := H c
  rw [e0, e1] at h0 h1 h2
  refine ⟨h0.trans ?_, h1.trans ?_, h2.trans ?_, ha0, ha1⟩
  · funext j
    rw [eq_ix3 j]
    exact Cert.ReferenceIdeal.Stage.straight_at _ _ hX hE _ _ _
  · funext j
    rw [eq_ix2 j]
    refine (Cert.ReferenceIdeal.Stage.number_at _ _ hX hE _ _).trans ?_
    exact (number_read (Cert.KernelIdeal.Blk.numbers m c) (j 0) (j 1)).symm
  · funext j
    exact Cert.ReferenceIdeal.Stage.loss_at _ _ hX hE j

/-- All five claims. -/
theorem claim : Cert.Claim :=
  ⟨Cert.Kernel.Gen.facts, Cert.KernelIdeal.Gen.facts, Cert.ReferenceIdeal.Gen.facts, ⟨by decide, by decide⟩,
    fun m ρ _ => Cert.Kernel.Gen.frame m ρ, fun m ρ _ => Cert.KernelIdeal.Gen.frame m ρ,
    fun m ρ _ => Cert.KernelIdeal.Gen.frame m ρ, fun m ρ _ => Cert.ReferenceIdeal.Stage.frame m ρ,
    fun m ρ _ => Cert.ReferenceIdeal.Stage.frame m ρ, trivial,
    letI : Cert.Pre_all_finite.Facts := ⟨by decide, by decide⟩; results⟩

end Cert.Proof

end
